-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1000 : Shape := ⟨2, ![16384, 1000]⟩
abbrev S1000x128 : Shape := ⟨2, ![1000, 128]⟩
abbrev S128 : Shape := ⟨1, ![128]⟩
abbrev S128x1 : Shape := ⟨2, ![128, 1]⟩
abbrev S1000x16384 : Shape := ⟨2, ![1000, 16384]⟩
abbrev S16384x128 : Shape := ⟨2, ![16384, 128]⟩
abbrev S2x240x16384 : Shape := ⟨3, ![2, 240, 16384]⟩
abbrev S128x16384 : Shape := ⟨2, ![128, 16384]⟩
abbrev S2x2048x128 : Shape := ⟨3, ![2, 2048, 128]⟩
abbrev S2 : Shape := ⟨1, ![2]⟩
abbrev S1 : Shape := ⟨1, ![1]⟩
abbrev S_ : Shape := ⟨0, ![]⟩
abbrev S1x240x16384 : Shape := ⟨3, ![1, 240, 16384]⟩
abbrev S240x16384 : Shape := ⟨2, ![240, 16384]⟩
abbrev S240x128 : Shape := ⟨2, ![240, 128]⟩
abbrev S1x184x16384 : Shape := ⟨3, ![1, 184, 16384]⟩
abbrev S184x16384 : Shape := ⟨2, ![184, 16384]⟩
abbrev S1x96x16384 : Shape := ⟨3, ![1, 96, 16384]⟩
abbrev S96x16384 : Shape := ⟨2, ![96, 16384]⟩
abbrev S184x128 : Shape := ⟨2, ![184, 128]⟩
abbrev S96x128 : Shape := ⟨2, ![96, 128]⟩
abbrev S128x2048 : Shape := ⟨2, ![128, 2048]⟩
abbrev S2048x128 : Shape := ⟨2, ![2048, 128]⟩
abbrev S1x2048x128 : Shape := ⟨3, ![1, 2048, 128]⟩

abbrev nBuf : Space → Nat
  | .hbm => 6
  | .vmem => 5
  | .smem => 0
  | _ => 0

abbrev bufTy : (tb : Table) → Fin (tcTables nBuf tb) → BufTy
  | .hbm, ⟨0, _⟩ => ⟨S16384x1000, .f32⟩
  | .hbm, ⟨1, _⟩ => ⟨S1000x128, .f32⟩
  | .hbm, ⟨2, _⟩ => ⟨S128, .f32⟩
  | .hbm, ⟨3, _⟩ => ⟨S128x1, .f32⟩
  | .hbm, ⟨4, _⟩ => ⟨S1000x16384, .f32⟩
  | .hbm, ⟨5, _⟩ => ⟨S16384x128, .f32⟩
  | .local _ .vmem, ⟨0, _⟩ => ⟨S1000x128, .f32⟩
  | .local _ .vmem, ⟨1, _⟩ => ⟨S128x1, .f32⟩
  | .local _ .vmem, ⟨2, _⟩ => ⟨S2x240x16384, .f32⟩
  | .local _ .vmem, ⟨3, _⟩ => ⟨S128x16384, .f32⟩
  | .local _ .vmem, ⟨4, _⟩ => ⟨S2x2048x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1000 : Shape := ⟨2, ![16384, 1000]⟩
abbrev S1000x128 : Shape := ⟨2, ![1000, 128]⟩
abbrev S128 : Shape := ⟨1, ![128]⟩
abbrev S16384x128 : Shape := ⟨2, ![16384, 128]⟩
abbrev S1x128 : Shape := ⟨2, ![1, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x128, .f32⟩
  | .hbm, ⟨2, _⟩ => ⟨S128, .f32⟩
  | .hbm, ⟨3, _⟩ => ⟨S16384x128, .f32⟩
  | .hbm, ⟨4, _⟩ => ⟨S1x128, .f32⟩
  | .hbm, ⟨5, _⟩ => ⟨S16384x128, .f32⟩
  | .hbm, ⟨6, _⟩ => ⟨S16384x128, .f32⟩
  | .hbm, ⟨7, _⟩ => ⟨S_, .f32⟩
  | .hbm, ⟨8, _⟩ => ⟨S16384x128, .f32⟩
  | .hbm, ⟨9, _⟩ => ⟨S16384x128, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Proof.Body.lean ====
/-
  The kernel body run once, for any float values.

  The body is handed the transposed input (HBM), the weights and the bias column (staged), the result (HBM), three
  scratch buffers and four transfer semaphores. It copies the five row slabs of the transposed input into the two
  slots of a scratch buffer, adds the five partial products into an accumulator, and sends the result out in eight
  chunks of 2048 rows through the two slots of a second scratch buffer.
-/
module

public import proofs.«01_k».proof.Proof.Gen.KernelIdeal.Skeleton
public import proofs.«01_k».proof.Proof.Gen.KernelIdeal.Frame
public import Idealize.ShloMosaic.Lib.Tactic
public import Idealize.ShloMosaic.Lib.Pipeline.FrameValue

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of the buffer a memref names, on core `c`. -/
abbrev Bf (c : Dev nD) {sp : Space} {S : Shape} {e : EltTy} (M : Memref sig .tc sp S e) : Type :=
  Buf (Elt F) (M.view.loc (c : Thread nD τ))

/-- The buffer a memref names, held outright on core `c` at the contents `f`. -/
abbrev pt (c : Dev nD) {sp : Space} {S : Shape} {e : EltTy} (M : Memref sig .tc sp S e) (f : Bf (F := F) c M) : sProp 𝕄 :=
  M.view.loc (c : Thread nD τ) ↦{fullShare} f

/-- The body's own transfer semaphores: two for the slabs coming in, two for the chunks going out. -/
abbrev osem : Fin 4 → SemLoc sig := fun | 0 => .dma 2 | 1 => .dma 3 | 2 => .dma 4 | 3 => .dma 5

/-- The four of them at zero on core `c`. -/
abbrev sems0 (c : Dev nD) : sProp 𝕄 :=
  iprop(semVal ((c : Thread nD τ), osem 0) 0 ∗ semVal ((c : Thread nD τ), osem 1) 0
    ∗ semVal ((c : Thread nD τ), osem 2) 0 ∗ semVal ((c : Thread nD τ), osem 3) 0)

set_option sl_exec.dmaWindow true in
set_option sl_exec.dmaWindowSet true in
/-- THE BODY: from the transposed input at `f0`, the weights' buffer at `f1` and the bias column's at `f2` it ends, with
    those three unchanged, the scratch buffers at something, the semaphores back at zero, and the result's buffer at a
    list of chunks written over it whole: the list is the first component, found by the run. -/
def kernelRun (c : Dev nD)
    (M1 : Memref sig .tc .vmem S1000x128 .f32) (h1 : M1.IsWhole) (M2 : Memref sig .tc .vmem S128x1 .f32) (h2 : M2.IsWhole)
    (f0 : Bf (F := F) c (Memref.whole main_call0_v0)) (f1 : Bf (F := F) c M1) (f2 : Bf (F := F) c M2)
    (f3 : Bf (F := F) c (Memref.whole main_v1)) (g0 : Bf (F := F) c (Memref.whole cc0_scratch0))
    (g1 : Bf (F := F) c (Memref.whole cc0_scratch1)) (g2 : Bf (F := F) c (Memref.whole cc0_scratch2)) :
    { L : List (View.Piece (Elt F) S16384x128 .f32) // ∀ (W : Waits sig Unit) (Q : PUnit → sProp 𝕄),
    iprop(pt c (Memref.whole main_call0_v0) f0 ∗ pt c M1 f1 ∗ pt c M2 f2 ∗ pt c (Memref.whole main_v1) f3
      ∗ pt c (Memref.whole cc0_scratch0) g0 ∗ pt c (Memref.whole cc0_scratch1) g1 ∗ pt c (Memref.whole cc0_scratch2) g2
      ∗ sems0 c ∗ owes (c : Thread nD τ) 0 W
      ∗ (iprop(pt c (Memref.whole main_call0_v0) f0 ∗ pt c M1 f1 ∗ pt c M2 f2
          ∗ pt c (Memref.whole main_v1) ((Memref.whole main_v1).view.writes (Elt F) (Memref.whole main_v1).view.junk L)
          ∗ (∃ f, pt c (Memref.whole cc0_scratch0) f) ∗ (∃ f, pt c (Memref.whole cc0_scratch1) f)
          ∗ (∃ f, pt c (Memref.whole cc0_scratch2) f) ∗ sems0 c ∗ ∃ W, owes (c : Thread nD τ) 0 W) -∗ Q ⟨⟩))
    ⊢ wp frame (wpE (defs₀ (F := F)) Variants.none c none) Set.univ
        (cc0__mm_kslab (Memref.whole main_call0_v0) (Memref.isWhole_whole _) M1 h1 M2 h2 (Memref.whole main_v1)
          (Memref.isWhole_whole _) (Memref.whole cc0_scratch0) (Memref.isWhole_whole _) (Memref.whole cc0_scratch1)
          (Memref.isWhole_whole _) (Memref.whole cc0_scratch2) (Memref.isWhole_whole _) cc0_scratch3 cc0_scratch4) Q } := by
  refine ⟨?_, fun W Q => ?_⟩
  case refine_2 =>
    iintro ⟨H0, H1, H2, H3, Hx, Ha, Ht, ⟨Hd0, Hd1, Hd2, Hd3⟩, HO, Hk⟩
    simp only [Gen.cc0__mm_kslab_eq_skeleton, Gen.k0_part1_eq_skeleton, Gen.k0_part2_eq_skeleton, Gen.k0_part3_eq_skeleton,
      Gen.k0_part4_eq_skeleton, Gen.k0_part5_eq_skeleton, Gen.k0_part6_eq_skeleton, Gen.k0_part7_eq_skeleton,
      Gen.k0_part8_eq_skeleton, Gen.k0_part9_eq_skeleton]
    sl_exec!
    sl_step
    iapply Hk
    isplitl [H0]; · iexact H0
    isplitl [H1]; · iexact H1
    isplitl [H2]; · iexact H2
    isplitl [H3]; · iexact H3
    isplitl [Hx]; · iexists _; iexact Hx
    isplitl [Ha]; · iexists _; iexact Ha
    isplitl [Ht]; · iexists _; iexact Ht
    isplitl [Hd0 Hd1 Hd2 Hd3]
    · isplitl [Hd0]; · iexact Hd0
      isplitl [Hd1]; · iexact Hd1
      isplitl [Hd2]; · iexact Hd2
      iexact Hd3
    iexists _; iexact HO

end Cert.KernelIdeal.Body

end
-- ==== Proof.Result.lean ====
/-
  What the body leaves in the result, as one function of its three inputs, for any float values.
-/
module

public import proofs.«01_k».proof.Proof.Body
public import Idealize.ShloMosaic.Lib.Pointwise
public import Idealize.ShloMosaic.Lib.Pipeline.ValueKit

@[expose] public section

set_option maxRecDepth 16384

noncomputable section

namespace Cert.KernelIdeal.Body

open Cert.KernelIdeal Cert.KernelIdeal.Gen
open Idealize.ShloMosaic
open Idealize.ShloMosaic.TcCoe Idealize.SL.Sem

variable {F : FTy → Type} [FloatOps F]

section Reads

variable {sig : RefSig} {κ : Kind} {Val : EltTy → Type} {sp : Space} {s s' : Shape} {e : EltTy} (M : Memref sig κ sp s e)
  (r : Rect s) (hr : ∀ a, r.stride a = 1) (hq : r.shape.Squeezes s')

/-- A slot filled by a copy, loaded whole: the copied array with the slot axis put back. -/
theorem readAt_slot (hc : s'.ShapeCasts r.shape) (f : M.view.ty.Contents Val) (w : s'.Idx → Val e) :
    M.view.readAt Val r.toLoadRect (((M.slice r hr).squeeze s' hq).view.write Val f w Finset.univ) = shapeCast r.shape w hc := by
  have h := View.write_reshape_univ (M.slice r hr).view hq.numel_eq f w
  exact (congrArg (M.view.readAt Val r.toLoadRect) h).trans (View.read_write_univ (v := M.view.slice r) _ _)

/-- A slot loaded after the OTHER slot was filled by a copy: as it was before. -/
theorem readAt_other (r₁ : Rect s) (a : Fin s.rank) (i j : ℕ) (hij : i ≠ j) (f : M.view.ty.Contents Val) (w : s'.Idx → Val e)
    (hi : r₁.off a = i ∧ r₁.stride a = 1 ∧ r₁.size a = 1 := by exact ⟨rfl, rfl, rfl⟩)
    (hj : r.off a = j ∧ r.stride a = 1 ∧ r.size a = 1 := by exact ⟨rfl, rfl, rfl⟩) :
    M.view.readAt Val r₁.toLoadRect (((M.slice r hr).squeeze s' hq).view.write Val f w Finset.univ)
      = M.view.readAt Val r₁.toLoadRect f := by
  have h := View.write_reshape_univ (M.slice r hr).view hq.numel_eq f w
  refine (congrArg (M.view.readAt Val r₁.toLoadRect) h).trans (funext fun x => ?_)
  refine View.read_slice_write_of_not_mem r f _ Finset.univ ?_
  rw [Rect.map_emb_univ]
  refine r.not_mem_set_of_axis _ a j 1 hj.1 hj.2.1 hj.2.2 ?_
  have hx := (x a).isLt
  change (x a).val < r₁.size a at hx
  change r₁.off a + r₁.stride a * (x a).val < j ∨ j + 1 ≤ r₁.off a + r₁.stride a * (x a).val
  rw [hi.1, hi.2.1]; rw [hi.2.2] at hx
  omega

/-- A slot just stored whole, read as the source of a copy: the stored array with the slot axis dropped. -/
theorem read_slot (hc : r.shape.ShapeCasts s') (f : M.view.ty.Contents Val) (w : r.shape.Idx → Val e)
    (L : List (View.Piece Val s e)) :
    ((M.slice r hr).squeeze s' hq).view.read Val (M.view.writes Val f (⟨r, w⟩ :: L)) = shapeCast s' w hc := by
  rw [Memref.read_squeeze_slice M r hr hq hc]
  exact congrArg (fun x => shapeCast s' x hc) (View.read_write_univ (v := M.view.slice r) _ _)

end Reads

/-- Rows `o … o + n` of the weights. -/
def rowsW (o n : ℕ) (h : o + n ≤ 1000) (W : S1000x128.Idx → Elt F .f32) : (⟨2, ![n, 128]⟩ : Shape).Idx → Elt F .f32 :=
  fun y => W (ix2 ⟨o + (y 0).val, by have := (y 0).isLt; change (y 0).val < n at this; omega⟩ (y 1))

/-- Rows `o … o + n` of the transposed input, with a leading unit axis (the slot). -/
def rowsX (o n : ℕ) (h : o + n ≤ 1000) (X : S1000x16384.Idx → Elt F .f32) : (⟨3, ![1, n, 16384]⟩ : Shape).Idx → Elt F .f32 :=
  fun y => X (ix2 ⟨o + (y 1).val, by have := (y 1).isLt; change (y 1).val < n at this; omega⟩ (y 2))

/-- The accumulator after one slab, -/
def acc1 (X : S1000x16384.Idx → Elt F .f32) (W : S1000x128.Idx → Elt F .f32) : S128x16384.Idx → Elt F .f32 :=
  k0_pay1 (rowsW 0 240 (by decide) W) (rowsX 0 240 (by decide) X)
/-- after two, -/
def acc2 (X : S1000x16384.Idx → Elt F .f32) (W : S1000x128.Idx → Elt F .f32) : S128x16384.Idx → Elt F .f32 :=
  k0_pay2 (rowsW 240 240 (by decide) W) (rowsX 240 240 (by decide) X) (acc1 X W)
/-- after three, -/
def acc3 (X : S1000x16384.Idx → Elt F .f32) (W : S1000x128.Idx → Elt F .f32) : S128x16384.Idx → Elt F .f32 :=
  k0_pay3 (rowsW 480 240 (by decide) W) (rowsX 480 240 (by decide) X) (acc2 X W)
/-- after four, -/
def acc4 (X : S1000x16384.Idx → Elt F .f32) (W : S1000x128.Idx → Elt F .f32) : S128x16384.Idx → Elt F .f32 :=
  k0_pay5 (k0_pay4 (rowsW 720 184 (by decide) W) (rowsX 720 184 (by decide) X) (acc3 X W))
/-- and after all five slabs. -/
def acc (X : S1000x16384.Idx → Elt F .f32) (W : S1000x128.Idx → Elt F .f32) : S128x16384.Idx → Elt F .f32 :=
  k0_pay6 (rowsW 904 96 (by decide) W) (rowsX 904 96 (by decide) X) (acc4 X W)

/-- The result: at row `m`, column `n`, the accumulator's element `(n, m)` plus bias `n`, or zero if that is less. -/
def result (X : S1000x16384.Idx → Elt F .f32) (W : S1000x128.Idx → Elt F .f32) (B : S128x1.Idx → Elt F .f32) :
    S16384x128.Idx → Elt F .f32 := fun i =>
  FloatOps.maximumf (FloatOps.addf (acc X W (ix2 (i 1) (i 0))) (B (ix2 (i 1) 0))) (Scalar.ofBits .f32 0x00000000#32)

variable (c : Dev nD)
    (M1 : Memref sig .tc .vmem S1000x128 .f32) (h1 : M1.IsWhole) (M2 : Memref sig .tc .vmem S128x1 .f32) (h2 : M2.IsWhole)
    (f0 : Bf (F := F) c (Memref.whole main_call0_v0)) (f1 : Bf (F := F) c M1) (f2 : Bf (F := F) c M2)
    (f3 : Bf (F := F) c (Memref.whole main_v1)) (g0 : Bf (F := F) c (Memref.whole cc0_scratch0))
    (g1 : Bf (F := F) c (Memref.whole cc0_scratch1)) (g2 : Bf (F := F) c (Memref.whole cc0_scratch2))

/-- Dropping a leading unit axis keeps the other two coordinates. -/
theorem dropSlot {a b : ℕ} (h : (⟨3, ![1, a, b]⟩ : Shape).numel = (⟨2, ![a, b]⟩ : Shape).numel)
    (y : (⟨3, ![1, a, b]⟩ : Shape).Idx) : Shape.reshapeEquiv h y = (ix2 (y 1) (y 2) : (⟨2, ![a, b]⟩ : Shape).Idx) :=
  Shape.reshapeEquiv_eq_of_rowMajor h (by
    rw [Shape.rowMajor_val_two, Shape.rowMajor_val_three]
    have h0 : (y 0).val = 0 := by have := (y 0).isLt; change (y 0).val < 1 at this; omega
    show (y 1).val * b + (y 2).val = ((y 0).val * a + (y 1).val) * b + (y 2).val
    rw [h0, Nat.zero_mul, Nat.zero_add])

/-- A copy of the rows `o … o + n` of the transposed input, with the slot axis put back. -/
theorem rowsX_of_copy (o n : ℕ) (h : o + n ≤ 1000) (hc : (⟨2, ![n, 16384]⟩ : Shape).ShapeCasts ⟨3, ![1, n, 16384]⟩)
    (inb : ∀ a, (![o, 0] : Fin 2 → ℕ) a + (![n, 16384] : Fin 2 → ℕ) a ≤ S1000x16384.size a)
    (hs : ∀ a, (Rect.unit ![o, 0] ![n, 16384] inb : Rect S1000x16384).stride a = 1) :
    shapeCast ⟨3, ![1, n, 16384]⟩ (ReadAs.same.apply (View.read (Elt F)
      ((Memref.whole main_call0_v0).slice (Rect.unit ![o, 0] ![n, 16384] inb) hs).view f0)) hc = rowsX o n h f0 := by
  funext y
  show f0 ((Rect.unit ![o, 0] ![n, 16384] inb : Rect S1000x16384).emb (Shape.reshapeEquiv hc y)) = rowsX o n h f0 y
  rw [dropSlot]
  refine congrArg f0 (Rect.emb_eq_of_coords _ _ _ fun a => ?_)
  match a with
  | ⟨0, _⟩ => exact (congrArg (o + ·) (Nat.one_mul _)).symm
  | ⟨1, _⟩ => exact ((Nat.zero_add _).trans (Nat.one_mul _)).symm

/-- The first slab's copy, loaded: rows 0 … 240 of the transposed input. -/
theorem slab0 : kernelRun.sl.v16 c f0 g0 = rowsX 0 240 (by decide) f0 := by
  unfold kernelRun.sl.v16
  rw [readAt_other _ _ _ _ _ 0 0 1 (by decide), readAt_slot _ _ _ _ (by decide)]
  exact rowsX_of_copy c f0 0 240 _ _ _ _

/-- The second slab's: rows 240 … 480. -/
theorem slab1 : kernelRun.sl.v33 c f0 g0 = rowsX 240 240 (by decide) f0 := by
  unfold kernelRun.sl.v33
  rw [readAt_other _ _ _ _ _ 0 1 0 (by decide), readAt_slot _ _ _ _ (by decide)]
  exact rowsX_of_copy c f0 240 240 _ _ _ _

/-- The third slab's: rows 480 … 720. -/
theorem slab2 : kernelRun.sl.v52 c f0 g0 = rowsX 480 240 (by decide) f0 := by
  unfold kernelRun.sl.v52
  rw [readAt_other _ _ _ _ _ 0 0 1 (by decide), readAt_slot _ _ _ _ (by decide)]
  exact rowsX_of_copy c f0 480 240 _ _ _ _

/-- The fourth slab's: rows 720 … 904. -/
theorem slab3 : kernelRun.sl.v71 c f0 g0 = rowsX 720 184 (by decide) f0 := by
  unfold kernelRun.sl.v71
  rw [readAt_other _ _ _ _ _ 0 1 0 (by decide), readAt_slot _ _ _ _ (by decide)]
  exact rowsX_of_copy c f0 720 184 _ _ _ _

/-- The last slab's: rows 904 … 1000. -/
theorem slab4 : kernelRun.sl.v85 c f0 g0 = rowsX 904 96 (by decide) f0 := by
  unfold kernelRun.sl.v85
  rw [readAt_slot _ _ _ _ (by decide)]
  exact rowsX_of_copy c f0 904 96 _ _ _ _

/-- A load of the weights' rows `o … o + n` out of their staged buffer. -/
theorem rowsW_of_load (o n : ℕ) (h : o + n ≤ 1000)
    (inb : ∀ a, (![o, 0] : Fin 2 → ℕ) a + (![n, 128] : Fin 2 → ℕ) a ≤ S1000x128.size a) :
    View.readAt (Elt F) M1.view (Rect.unit ![o, 0] ![n, 128] inb).toLoadRect f1 = rowsW o n h (M1.view.read (Elt F) f1) := by
  funext y
  show M1.view.read (Elt F) f1 ((Rect.unit ![o, 0] ![n, 128] inb : Rect S1000x128).emb y) = M1.view.read (Elt F) f1 _
  refine congrArg _ (Rect.emb_eq_of_coords _ _ _ fun a => ?_)
  match a with
  | ⟨0, _⟩ => exact (congrArg (o + ·) (Nat.one_mul _)).symm
  | ⟨1, _⟩ => exact ((Nat.zero_add _).trans (Nat.one_mul _)).symm

/-- The accumulator loaded whole after a store of it whole. -/
theorem acc_load (A : S128x16384.Idx → Elt F .f32) (L : List (View.Piece (Elt F) cc0_scratch1.ty.shape cc0_scratch1.ty.elt)) :
    (Memref.whole cc0_scratch1).view.readCov (⟨Rect.unit ![0, 0] S128x16384.size inb_S128x16384_S128x16384_0_0, A⟩ :: L)
      (Rect.unit ![0, 0] S128x16384.size inb_S128x16384_S128x16384_0_0).toLoadRect = A :=
  View.readCov_cons_unit_lit' (S := S128x16384) _ inb_S128x16384_S128x16384_0_0 inb_S128x16384_S128x16384_0_0 A L
    (by decide) (by decide)

/-- The second slab adds to `acc1`, -/
theorem acc1_load : kernelRun.sl.v36 c M1 f0 f1 g0 = acc1 f0 (M1.view.read (Elt F) f1) := by
  unfold kernelRun.sl.v36 kernelRun.sl.Ha_1 acc1
  rw [slab0, acc_load]
  exact congrArg (k0_pay1 · _) (rowsW_of_load c M1 f1 0 240 _ _)

/-- the third to `acc2`, -/
theorem acc2_load : kernelRun.sl.v55 c M1 f0 f1 g0 = acc2 f0 (M1.view.read (Elt F) f1) := by
  unfold kernelRun.sl.v55 kernelRun.sl.Ha_2 acc2
  rw [slab1, acc1_load, acc_load]
  exact congrArg (k0_pay2 · _ _) (rowsW_of_load c M1 f1 240 240 _ _)

/-- the fourth to `acc3`, -/
theorem acc3_load : kernelRun.sl.v74 c M1 f0 f1 g0 = acc3 f0 (M1.view.read (Elt F) f1) := by
  unfold kernelRun.sl.v74 kernelRun.sl.Ha_3 acc3
  rw [slab2, acc2_load, acc_load]
  exact congrArg (k0_pay3 · _ _) (rowsW_of_load c M1 f1 480 240 _ _)

/-- the fifth to `acc4`, -/
theorem acc4_load : kernelRun.sl.v88 c M1 f0 f1 g0 = acc4 f0 (M1.view.read (Elt F) f1) := by
  unfold kernelRun.sl.v88 kernelRun.sl.Ha_4 kernelRun.sl.r acc4
  rw [slab3, acc3_load, acc_load]
  exact congrArg (fun w => k0_pay5 (k0_pay4 w _ _)) (rowsW_of_load c M1 f1 720 184 _ _)

/-- and its store, the newest one when the chunks are read, is of `acc`. -/
theorem acc_stored : kernelRun.sl.Ha_5 c M1 f0 f1 g0
    = ⟨Rect.unit ![0, 0] S128x16384.size inb_S128x16384_S128x16384_0_0, acc f0 (M1.view.read (Elt F) f1)⟩
      :: kernelRun.sl.Ha_4 c M1 f0 f1 g0 := by
  unfold kernelRun.sl.Ha_5 acc
  rw [slab4, acc4_load]
  exact congrArg (fun w => (⟨Rect.unit ![0, 0] S128x16384.size inb_S128x16384_S128x16384_0_0, k0_pay6 w _ _⟩
    : View.Piece (Elt F) S128x16384 .f32) :: _) (rowsW_of_load c M1 f1 904 96 _ _)

/-- Columns `o … o + 2048` of an accumulator-shaped array. -/
def cols (o : ℕ) (ho : o + 2048 ≤ 16384) (A : S128x16384.Idx → Elt F .f32) : S128x2048.Idx → Elt F .f32 :=
  fun y => A (ix2 (y 0) ⟨o + (y 1).val, by have := (y 1).isLt; change (y 1).val < 2048 at this; omega⟩)

/-- Columns `o … o + 2048` of the accumulator, loaded after a store of it whole. -/
theorem cols_load (o : ℕ) (ho : o + 2048 ≤ 16384) (A : S128x16384.Idx → Elt F .f32)
    (L : List (View.Piece (Elt F) cc0_scratch1.ty.shape cc0_scratch1.ty.elt))
    (inb : ∀ a, (![0, o] : Fin 2 → ℕ) a + S128x2048.size a ≤ S128x16384.size a) :
    (Memref.whole cc0_scratch1).view.readCov (⟨Rect.unit ![0, 0] S128x16384.size inb_S128x16384_S128x16384_0_0, A⟩ :: L)
      (Rect.unit (s := S128x16384) ![0, o] S128x2048.size inb).toLoadRect = cols o ho A := by
  funext y
  have hz : (![0, 0] : Fin S128x16384.rank → ℕ) = fun _ => 0 := by decide
  have hm := View.mem_set_unit_zero (S := S128x16384) hz inb_S128x16384_S128x16384_0_0
  have hc (y : S128x16384.Idx) : ∃ p ∈ ((⟨Rect.unit ![0, 0] S128x16384.size inb_S128x16384_S128x16384_0_0, A⟩
      : View.Piece (Elt F) S128x16384 .f32) :: L), y ∈ p.1.set :=
    Exists.intro (⟨Rect.unit ![0, 0] S128x16384.size inb_S128x16384_S128x16384_0_0, A⟩ : View.Piece (Elt F) S128x16384 .f32)
      (And.intro List.mem_cons_self (hm y))
  rw [View.readCov_eq_canon_ld _ _ _ hc,
    View.canon_cons_unit_lit' (S := S128x16384) inb_S128x16384_S128x16384_0_0 A L (by decide)]
  refine View.ld_unit_apply_of (S := S128x16384) A ![0, o] S128x2048.size inb y _ fun a => ?_
  match a with
  | ⟨0, _⟩ => exact (Nat.zero_add _).symm
  | ⟨1, _⟩ => rfl

/-- What one output chunk holds at an index, from a block of accumulator columns and the bias column. -/
def chunk (a : S128x2048.Idx → Elt F .f32) (b : S128x1.Idx → Elt F .f32) : S2048x128.Idx → Elt F .f32 :=
  fun x => FloatOps.maximumf (FloatOps.addf (a (ix2 (x 1) (x 0))) (b (ix2 (x 1) 0))) (Scalar.ofBits .f32 0x00000000#32)

/-- The stored block of a chunk, its slot axis dropped, is `chunk`: bias added, floored at zero, turned to rows. -/
theorem chunk_of_pay (a : S128x2048.Idx → Elt F .f32) (b : S128x1.Idx → Elt F .f32) :
    shapeCast S2048x128 (k0_pay7 a b) (by decide) = chunk a b := by
  funext x
  pointwise [k0_pay7, chunk]

/-- A load of the bias column whole. -/
theorem bias_load : View.readAt (Elt F) M2.view (Rect.unit ![0, 0] S128x1.size inb_S128x1_S128x1_0_0).toLoadRect f2
    = M2.view.read (Elt F) f2 :=
  View.ld_unit_lit' (S := S128x1) inb_S128x1_S128x1_0_0 _ (by decide)

/-- One chunk as it is sent: a block stored into a slot and read back as the copy's source is `chunk` of the accumulator's
    columns. -/
theorem chunk_sent (o : ℕ) (ho : o + 2048 ≤ 16384) (inb : ∀ a, (![0, o] : Fin 2 → ℕ) a + S128x2048.size a ≤ S128x16384.size a)
    (k : ℕ) (inb' : ∀ a, (![k, 0, 0] : Fin 3 → ℕ) a + S1x2048x128.size a ≤ S2x2048x128.size a)
    (hr : ∀ a, (Rect.unit (s := S2x2048x128) ![k, 0, 0] S1x2048x128.size inb').stride a = 1)
    (L : List (View.Piece (Elt F) S2x2048x128 .f32)) :
    ReadAs.same.apply (View.read (Elt F)
      (((Memref.whole cc0_scratch2).slice (Rect.unit (s := S2x2048x128) ![k, 0, 0] S1x2048x128.size inb') hr).squeeze
        S2048x128 squeezes_S1x2048x128_S2048x128).view
      ((Memref.whole cc0_scratch2).view.writes (Elt F) g2
        (⟨Rect.unit (s := S2x2048x128) ![k, 0, 0] S1x2048x128.size inb',
          k0_pay7 ((Memref.whole cc0_scratch1).view.readCov (kernelRun.sl.Ha_5 c M1 f0 f1 g0)
            (Rect.unit (s := S128x16384) ![0, o] S128x2048.size inb).toLoadRect)
            (View.readAt (Elt F) M2.view (Rect.unit ![0, 0] S128x1.size inb_S128x1_S128x1_0_0).toLoadRect f2)⟩ :: L)))
      = chunk (cols o ho (acc f0 (M1.view.read (Elt F) f1))) (M2.view.read (Elt F) f2) := by
  rw [read_slot _ _ _ _ (by decide : S1x2048x128.ShapeCasts S2048x128), acc_stored, cols_load o ho, bias_load]
  exact chunk_of_pay _ _

/-- The chunk at rows `o … o + 2048` is the result there. -/
theorem chunk_eq_result (X : S1000x16384.Idx → Elt F .f32) (W : S1000x128.Idx → Elt F .f32) (B : S128x1.Idx → Elt F .f32)
    (o : ℕ) (ho : o + 2048 ≤ 16384) (inb : ∀ a, (![o, 0] : Fin 2 → ℕ) a + S2048x128.size a ≤ S16384x128.size a)
    (x : S2048x128.Idx) :
    chunk (cols o ho (acc X W)) B x = result X W B ((Rect.unit (s := S16384x128) ![o, 0] S2048x128.size inb).emb x) := by
  have h0 : (Rect.unit (s := S16384x128) ![o, 0] S2048x128.size inb).emb x 0
      = (⟨o + (x 0).val, by have := (x 0).isLt; change (x 0).val < 2048 at this; omega⟩ : Fin 16384) :=
    Fin.ext (congrArg (o + ·) (Nat.one_mul _))
  have h1 : (Rect.unit (s := S16384x128) ![o, 0] S2048x128.size inb).emb x 1 = x 1 :=
    Fin.ext ((Nat.zero_add _).trans (Nat.one_mul _))
  unfold result
  rw [h0, h1]
  rfl

/-- The rectangle of the result's rows `o … o + 2048`, with the chunk that goes there. -/
def piece (X : S1000x16384.Idx → Elt F .f32) (W : S1000x128.Idx → Elt F .f32) (B : S128x1.Idx → Elt F .f32)
    (o : ℕ) (ho : o + 2048 ≤ 16384) (inb : ∀ a, (![o, 0] : Fin 2 → ℕ) a + S2048x128.size a ≤ S16384x128.size a) :
    View.Piece (Elt F) S16384x128 .f32 :=
  ⟨Rect.unit ![o, 0] S2048x128.size inb, chunk (cols o ho (acc X W)) B⟩

/-- A piece agrees with `result` on its rectangle. -/
theorem piece_agree (X : S1000x16384.Idx → Elt F .f32) (W : S1000x128.Idx → Elt F .f32) (B : S128x1.Idx → Elt F .f32)
    (o : ℕ) (ho : o + 2048 ≤ 16384) (inb : ∀ a, (![o, 0] : Fin 2 → ℕ) a + S2048x128.size a ≤ S16384x128.size a)
    (x : (piece X W B o ho inb).1.shape.Idx) :
    (piece X W B o ho inb).2 x = result X W B ((piece X W B o ho inb).1.emb x) :=
  chunk_eq_result X W B o ho inb x

/-- The eight pieces the run writes, the last one first. -/
def pieces (X : S1000x16384.Idx → Elt F .f32) (W : S1000x128.Idx → Elt F .f32) (B : S128x1.Idx → Elt F .f32) :
    List (View.Piece (Elt F) S16384x128 .f32) :=
  [piece X W B 14336 (by decide) inb_S16384x128_S2048x128_14336_0, piece X W B 12288 (by decide) inb_S16384x128_S2048x128_12288_0,
   piece X W B 10240 (by decide) inb_S16384x128_S2048x128_10240_0, piece X W B 8192 (by decide) inb_S16384x128_S2048x128_8192_0,
   piece X W B 6144 (by decide) inb_S16384x128_S2048x128_6144_0, piece X W B 4096 (by decide) inb_S16384x128_S2048x128_4096_0,
   piece X W B 2048 (by decide) inb_S16384x128_S2048x128_2048_0, piece X W B 0 (by decide) inb_S16384x128_S2048x128_0_0]

/-- The run's list is those pieces. -/
theorem run_pieces : (kernelRun c M1 h1 M2 h2 f0 f1 f2 f3 g0 g1 g2).1
    = pieces f0 (M1.view.read (Elt F) f1) (M2.view.read (Elt F) f2) := by
  unfold kernelRun pieces piece
  refine congrArg₂ List.cons (congrArg (Sigma.mk _) (chunk_sent c M1 M2 f0 f1 f2 g0 g2 14336 _ _ 1 _ _ _)) ?_
  refine congrArg₂ List.cons (congrArg (Sigma.mk _) (chunk_sent c M1 M2 f0 f1 f2 g0 g2 12288 _ _ 0 _ _ _)) ?_
  refine congrArg₂ List.cons (congrArg (Sigma.mk _) (chunk_sent c M1 M2 f0 f1 f2 g0 g2 10240 _ _ 1 _ _ _)) ?_
  refine congrArg₂ List.cons (congrArg (Sigma.mk _) (chunk_sent c M1 M2 f0 f1 f2 g0 g2 8192 _ _ 0 _ _ _)) ?_
  refine congrArg₂ List.cons (congrArg (Sigma.mk _) (chunk_sent c M1 M2 f0 f1 f2 g0 g2 6144 _ _ 1 _ _ _)) ?_
  refine congrArg₂ List.cons (congrArg (Sigma.mk _) (chunk_sent c M1 M2 f0 f1 f2 g0 g2 4096 _ _ 0 _ _ _)) ?_
  refine congrArg₂ List.cons (congrArg (Sigma.mk _) (chunk_sent c M1 M2 f0 f1 f2 g0 g2 2048 _ _ 1 _ _ _)) ?_
  exact congrArg₂ List.cons (congrArg (Sigma.mk _) (chunk_sent c M1 M2 f0 f1 f2 g0 g2 0 _ _ 0 _ _ _)) rfl

/-- They tile the result: every index lies in one of them. -/
theorem pieces_cover (X : S1000x16384.Idx → Elt F .f32) (W : S1000x128.Idx → Elt F .f32) (B : S128x1.Idx → Elt F .f32)
    (i : S16384x128.Idx) : ∃ p ∈ pieces X W B, i ∈ p.1.set :=
  View.cover_of_tiled (pieces X W B) ![2048, 128] rfl i

/-- Each agrees with `result` on its rectangle. -/
theorem pieces_agree (X : S1000x16384.Idx → Elt F .f32) (W : S1000x128.Idx → Elt F .f32) (B : S128x1.Idx → Elt F .f32) :
    ∀ p ∈ pieces X W B, ∀ x, p.2 x = result X W B (p.1.emb x) := by
  intro p hp x
  unfold pieces at hp
  simp only [List.mem_cons, List.not_mem_nil, or_false] at hp
  rcases hp with rfl | rfl | rfl | rfl | rfl | rfl | rfl | rfl <;> exact piece_agree X W B _ _ _ x

/-- THE RESULT: the chunks written over the result's buffer leave `result` of the three inputs in it. -/
theorem written (b : Bf (F := F) c (Memref.whole main_v1)) :
    (Memref.whole main_v1).view.writes (Elt F) b (kernelRun c M1 h1 M2 h2 f0 f1 f2 f3 g0 g1 g2).1
      = result f0 (M1.view.read (Elt F) f1) (M2.view.read (Elt F) f2) := by
  rw [run_pieces]
  have h : (Memref.whole main_v1).view.read (Elt F) ((Memref.whole main_v1).view.writes (Elt F) b
      (pieces f0 (M1.view.read (Elt F) f1) (M2.view.read (Elt F) f2)))
      = result f0 (M1.view.read (Elt F) f1) (M2.view.read (Elt F) f2) :=
    funext fun i => View.read_writes_apply_of_pieces (Memref.whole main_v1).view b _ _ (pieces_agree _ _ _) i (pieces_cover _ _ _ i)
  exact (View.read_whole main_v1 _).symm.trans h

end Cert.KernelIdeal.Body

end
-- ==== Proof.Run.lean ====
/-
  The launch: the program's run from any memory, for any float values.

  The host lines before the kernel reshape the bias to a column and transpose the input. The kernel is launched with the
  weights and the bias column as its two staged windows, the transposed input read where it lies and the result written
  where it lies. After the run the three arguments are unchanged, every semaphore is at zero, and the result's buffer
  holds `result` of what the kernel was handed.
-/
module

public import proofs.«01_k».proof.Proof.Result

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The array the body reads where it lies. -/
abbrev rd : Finset (Ref sig .tc) := {main_call0_v0}
/-- The array the body writes where it lies. -/
abbrev wr : Finset (Ref sig .tc) := {main_v1}

/-- What the result's buffer holds after the kernel on core `c`. -/
abbrev out (c : Dev nD) : S16384x128.Idx → Elt F .f32 :=
  result (V m c main_call0_v0) (iblk m c 0 t0_0) (iblk m c 1 t0_0)

/-- The buffers after the kernel: as at its start, the result's replaced by `out`. -/
def G (c : Dev nD) (b : Ref sig .tc) : Buf (Elt F) ((c : Thread nD τ).loc b) :=
  Function.update (V m c) main_v1 (out m c) b

/-- The proof data on core `c`: the windows' arrays as at the kernel's start, their blocks left in place by the body, and
    the invariant before (the result's buffer as it was) and after (at `out`). -/
def dats (_ : Fin 1) (c : Dev nD) : Dat τ (Elt F) Unit ℕ (Pipeline.UD sig nD τ) ℕ cfg0 c where
  A w := V m c (Pipeline.arrRef spec0 w)
  after w t := match w with | ⟨0, _⟩ => iblk m c 0 t | ⟨1, _⟩ => iblk m c 1 t
  Φ t := Pipeline.ΦDRG osem spec0 rd wr (V m) (if t.val = 0 then V m else G m) c
  q _ := fullShare
  owed _ := 0

/-- The windows' arrays are as at the kernel's start. -/
theorem A_eq (c : Dev nD) (w : Fin cfg0.W) : (dats m 0 c).A w = V m c (Pipeline.arrRef spec0 w) := by
  dsimp only [dats]

/-- The body leaves the weights' block in place, -/
theorem after0 (c : Dev nD) (t : Fin cfg0.N) : (dats m 0 c).after 0 t = iblk m c 0 t := by dsimp only [dats]
/-- and the bias column's. -/
theorem after1 (c : Dev nD) (t : Fin cfg0.N) : (dats m 0 c).after 1 t = iblk m c 1 t := by dsimp only [dats]

/-- The weights' staged buffer holds their block when the body runs. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- The same of the bias column's. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- The invariant conjunct by conjunct, the result's buffer at `X`'s contents of it. -/
theorem inv_eq (X : (c : Dev nD) → (b : Ref sig .tc) → Buf (Elt F) ((c.tc : Thread nD τ).loc b)) (c : Dev nD) :
    (Pipeline.ΦDRG osem spec0 rd wr (V m) X c : sProp 𝕄)
      = iprop(((∃ f, pt c (Memref.whole cc0_scratch0) f) ∗ (∃ f, pt c (Memref.whole cc0_scratch1) f)
          ∗ (∃ f, pt c (Memref.whole cc0_scratch2) f)) ∗ (∃ r, prngReg c r) ∗ sems0 c
          ∗ pt c (Memref.whole main_call0_v0) (V m c main_call0_v0) ∗ pt c (Memref.whole main_v1) (X c main_v1)) := by
  rw [Pipeline.ΦDRG_eq, scopedRest0_eq, Pipeline.ownSems0_eq_of_list c osem [0, 1, 2, 3] (by decide) (by decide)]
  unfold Pipeline.routed
  rw [BI.bigSep_eq_bigSepL_of_eq [main_call0_v0] (by decide) (by decide),
    BI.bigSep_eq_bigSepL_of_eq [main_v1] (by decide) (by decide), BI.bigSepL_singleton, BI.bigSepL_singleton]
  rfl

/-- Before the body the result's buffer is as it was, -/
theorem inv_first (c : Dev nD) : (dats m 0 c).Φ t0_0.castSucc = Pipeline.ΦDRG osem spec0 rd wr (V m) (V m) c := by
  dsimp only [dats]; rw [if_pos (by decide)]
/-- after it the result's buffer is at `out`: -/
theorem inv_last (c : Dev nD) : (dats m 0 c).Φ t0_0.succ = Pipeline.ΦDRG osem spec0 rd wr (V m) (G m) c := by
  dsimp only [dats]; rw [if_neg (by decide)]

/-- that is what `G` says of it. -/
theorem G_v1 (c : Dev nD) : G m c main_v1 = out m c := by unfold G; exact Function.update_self ..

/-- The body obligation: the invariant and the two staged blocks taken apart, `kernelRun` applied, its end put together
    again with the written list read as `out` (`written`). -/
theorem body_obligation (c : Dev nD) : BodyObligation (dats m 0 c) (defs₀ (F := F)) Variants.none () Set.univ := fun t => by
  obtain rfl := fin_N0 t
  rw [bigSep_W0, bigSep_W0]
  simp only [owns_whole_eq]
  rw [inv_first, inv_last, inv_eq, inv_eq, G_v1]
  unfold Dat.owesAt Pipeline.owesWithin
  rw [show (dats m 0 c).owed t0_0.castSucc = 0 from rfl, show (dats m 0 c).owed t0_0.succ = 0 from rfl]
  iintro ⟨⟨⟨⟨%g0, Hx⟩, ⟨%g1, Ha⟩, ⟨%g2, Ht⟩⟩, Hp, Hsems, HX, HO3⟩, ⟨%W, %hW, HO⟩, ⟨%d0, %f1, %hf1, H1⟩, ⟨%d1, %f2, %hf2, H2⟩⟩
  rw [before0] at hf1
  rw [before1] at hf2
  have hw := written c (stage0_0 0) (hstage0_0 0) (stage0_1 0) (hstage0_1 0) (V m c main_call0_v0) f1 f2 (V m c main_v1)
    g0 g1 g2 (Memref.whole main_v1).view.junk
  rw [show (stage0_0 0).view.read (Elt F) f1 = iblk m c 0 t0_0 from hf1,
    show (stage0_1 0).view.read (Elt F) f2 = iblk m c 1 t0_0 from hf2] at hw
  iapply ((kernelRun c (stage0_0 0) (hstage0_0 0) (stage0_1 0) (hstage0_1 0) (V m c main_call0_v0) f1 f2 (V m c main_v1) g0 g1 g2).2 W _)
  rw [hw]
  isplitl [HX]; · iexact HX
  isplitl [H1]; · iexact H1
  isplitl [H2]; · iexact H2
  isplitl [HO3]; · iexact HO3
  isplitl [Hx]; · iexact Hx
  isplitl [Ha]; · iexact Ha
  isplitl [Ht]; · iexact Ht
  isplitl [Hsems]; · iexact Hsems
  isplitl [HO]; · iexact HO
  iintro ⟨HX, H1, H2, HO3, Hx, Ha, Ht, Hsems, ⟨%W', HO⟩⟩
  isplitl [HX HO3 Hx Ha Ht Hsems Hp]
  · isplitl [Hx Ha Ht]
    · isplitl [Hx]; · iexact Hx
      isplitl [Ha]; · iexact Ha
      iexact Ht
    isplitl [Hp]; · iexact Hp
    isplitl [Hsems]; · iexact Hsems
    isplitl [HX]; · iexact HX
    iexact HO3
  isplitl [HO]
  · iexists W'; isplitr; · ipureintro; exact fun _ _ => Or.inl trivial
    iexact HO
  isplitl [H1]
  · iexists f1; isplitr; swap; (· iexact H1); ipureintro; rw [after0]; exact hf1
  · iexists f2; isplitr; swap; (· iexact H2); ipureintro; rw [after1]; exact hf2

set_option maxHeartbeats 800000 in
/-- The host lines then the kernel, at the algebra the launch below uses. -/
theorem hmain : Pipeline.HMain (Ix := Unit) (Name := ℕ) (U := Pipeline.UD sig nD τ) (Lvl := ℕ) cfgs 0 defs₀ Variants.none m
    (main (F := F)) (V m) :=
  Pipeline.hmain_prefixes cfgs 0 defs₀ Variants.none m main [hostOps0, hostOps0_1]
    (by simp only [List.Forall]; exact ⟨hostOps0_sub, hostOps0_1_sub⟩)
    (by simp only [List.Forall]; exact ⟨hostOps0_fresh, hostOps0_1_fresh⟩) main_chain

/-- THE RUN: from any memory the program ends, nothing faulting, with the result's buffer at `out`, the arguments as they
    were and every semaphore at zero. -/
theorem run : θ_run defs (onTc (τ := τ) (main (F := F))) ⟨m, fun _ => 0, ρ⟩ (fun r =>
    (∀ c : Dev nD, r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  Pipeline.θ_run_frame_dmaRG cfgs (dats m) 0 launch0 osem defs₀ Variants.none (by decide) rd wr (by decide) (by decide) m ρ main
    (fun c => (body_obligation m c).loose) (fun c => (dats m 0 c).share_full fun _ => rfl) (fun _ _ => rfl) (V m) (hmain m)
    (A_eq m) (G m)
    (fun c => by dsimp only [dats]; rw [if_pos (by decide)])
    (fun c => by dsimp only [dats]; rw [if_neg (by decide)])
    _ (fun r h => ⟨fun c => ⟨(h.1.written c (by decide)).trans (G_v1 m c),
      ((h.1.toR c).2 main_arg0 (by decide)).trans (V_main_arg0 m c),
      ((h.1.toR c).1 0).trans (((dats m 0 c).arrAt_in 0 rfl _).trans ((A_eq m c 0).trans (V_main_arg1 m c))),
      ((h.1.toR c).2 main_arg2 (by decide)).trans (V_main_arg2 m c)⟩, h.2⟩)

/-- THE FRAME: the same run, of which only the arguments and the semaphores are kept. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => (h.1 c).2, h.2⟩) (run m ρ)

end Cert.KernelIdeal.Body

end
-- ==== Proof.SameText.lean ====
/-
  The program read at the machine's own floats has the same text as the one read at the extended reals, so the frame
  proved of the second for any float values is the first's.
-/
module

public import proofs.«01_k».proof.Defs
public import proofs.«01_k».proof.Proof.Run
public import proofs.«01_k».proof.Proof.Gen.Kernel

@[expose] public section

set_option maxRecDepth 16384

noncomputable section

namespace Cert.Proof

open Idealize.ShloMosaic Idealize.SL.Sem

variable {F : FTy → Type} [FloatOps F]

/-- The kernel's body is the same in the two printings, -/
theorem body_same : Cert.Kernel.defs₀ (F := F) = Cert.KernelIdeal.defs₀ (F := F) := by
  unfold Cert.Kernel.defs₀ Cert.KernelIdeal.defs₀
  refine congrArg _ (funext fun l => funext fun a => ?_)
  match l with
  | ⟨0, _⟩ => rfl

/-- so are the definitions around it, -/
theorem defs_same : Cert.Kernel.defs (F := F) = Cert.KernelIdeal.defs (F := F) :=
  congrArg (Pipeline.defs Cert.Kernel.pcfgs) body_same

/-- and so is the program that launches it. -/
theorem main_same : Cert.Kernel.main (F := F) = Cert.KernelIdeal.main (F := F) := rfl

/-- The program at the machine's floats: it ends, nothing faulting, the arguments unchanged, every semaphore at zero. -/
theorem frame_bits : Cert.quiescent_Kernel (hKernel := Cert.Kernel.Gen.facts) := fun m g _ => by
  rw [defs_same, main_same]
  exact Cert.KernelIdeal.Body.frame (F := Bits) m g

end Cert.Proof

end
-- ==== Proof.Sums.lean ====
/-
  The accumulator over the extended reals: after the slabs up to row `o` it holds, at `(n, m)`, the sum over the rows
  `k < o` of weight `(k, n)` times transposed input `(k, m)`; after the last slab, the sum over all 1000 rows.
-/
module

public import proofs.«01_k».proof.Proof.Result
public import Idealize.ShloMosaic.Lib.Pointwise

@[expose] public section

noncomputable section

namespace Cert.KernelIdeal.Body

open Cert.KernelIdeal Cert.KernelIdeal.Gen
open Idealize.ShloMosaic

variable (X : S1000x16384.Idx → Elt Ideal .f32) (W : S1000x128.Idx → Elt Ideal .f32)

/-- The product of row `k` at `j`, zero past the last row. -/
def term (j : S128x16384.Idx) (k : ℕ) : EReal :=
  if h : k < 1000 then W (ix2 ⟨k, h⟩ (j 0)) * X (ix2 ⟨k, h⟩ (j 1)) else 0

/-- The sum of the rows below `o`. -/
def upto (o : ℕ) (j : S128x16384.Idx) : EReal := ∑ k ∈ Finset.range o, term X W j k

/-- A slab's partial product is the sum of its rows' terms. -/
theorem slab_sum (o n : ℕ) (h : o + n ≤ 1000) (j : S128x16384.Idx) :
    ∑ k : Fin n, rowsW (F := Ideal) o n h W (ix2 k (j 0)) * rowsX (F := Ideal) o n h X (ix3 0 k (j 1))
      = ∑ k ∈ Finset.range n, term X W j (o + k) := by
  rw [Finset.sum_range]
  refine Finset.sum_congr rfl fun k _ => ?_
  rw [term, dif_pos (Nat.lt_of_lt_of_le (Nat.add_lt_add_left k.isLt o) h)]
  rfl

/-- The rows below `o` and the slab after them are the rows below its end. -/
theorem upto_add (o n : ℕ) (h : o + n ≤ 1000) (j : S128x16384.Idx) :
    upto X W o j + ∑ k : Fin n, rowsW (F := Ideal) o n h W (ix2 k (j 0)) * rowsX (F := Ideal) o n h X (ix3 0 k (j 1))
      = upto X W (o + n) j := by
  rw [slab_sum, upto, upto, Finset.sum_range_add]

/-- After the first slab: the rows below 240; -/
theorem acc1_eq (j : S128x16384.Idx) : acc1 (F := Ideal) X W j = upto X W 240 j := by
  unfold acc1
  pointwise [k0_pay1]
  exact (zero_add _).symm.trans (upto_add X W 0 240 _ j)

/-- after the second: the rows below 480; -/
theorem acc2_eq (j : S128x16384.Idx) : acc2 (F := Ideal) X W j = upto X W 480 j := by
  unfold acc2
  pointwise [k0_pay2]
  rw [acc1_eq]
  exact upto_add X W 240 240 _ j

/-- after the third: the rows below 720; -/
theorem acc3_eq (j : S128x16384.Idx) : acc3 (F := Ideal) X W j = upto X W 720 j := by
  unfold acc3
  pointwise [k0_pay3]
  rw [acc2_eq]
  exact upto_add X W 480 240 _ j

/-- after the fourth: the rows below 904; -/
theorem acc4_eq (j : S128x16384.Idx) : acc4 (F := Ideal) X W j = upto X W 904 j := by
  unfold acc4
  pointwise [k0_pay5, k0_pay4]
  rw [acc3_eq]
  exact upto_add X W 720 184 _ j

/-- after the last: all rows. -/
theorem acc_eq (j : S128x16384.Idx) : acc (F := Ideal) X W j = upto X W 1000 j := by
  unfold acc
  pointwise [k0_pay6]
  rw [acc4_eq]
  exact upto_add X W 904 96 _ j

/-- The whole accumulator at `(n, m)`: the sum over all rows `k` of transposed input `(k, m)` times weight `(k, n)`. -/
theorem acc_sum (n : Fin 128) (r : Fin 16384) :
    acc (F := Ideal) X W (ix2 n r) = ∑ k : Fin 1000, X (ix2 k r) * W (ix2 k n) := by
  rw [acc_eq, upto, Finset.sum_range]
  refine Finset.sum_congr rfl fun k _ => ?_
  rw [term, dif_pos k.isLt]
  exact mul_comm _ _

end Cert.KernelIdeal.Body

end
-- ==== Proof.Value.lean ====
/-
  THE EQUATION: over the extended reals, what the kernel leaves in the result's buffer is the reference's term of the
  same three arguments.
-/
module

public import proofs.«01_k».proof.Proof.Run
public import proofs.«01_k».proof.Proof.Sums
public import proofs.«01_k».proof.Proof.Gen.ReferenceIdeal.Run

@[expose] public section

set_option maxRecDepth 16384

noncomputable section

namespace Cert.KernelIdeal.Body

open Cert.KernelIdeal Cert.KernelIdeal.Gen
open Idealize.ShloMosaic Idealize.ShloMosaic.TcCoe Idealize.ShloMosaic.StableHlo

section Entry

variable {F : FTy → Type} [FloatOps F] (m : (ℓ : Loc nD τ sig) → Buf (Elt F) ℓ) (c : Dev nD)

/-- The kernel is handed the input transposed, -/
theorem V_transposed : V m c main_call0_v0
    = transpose S1000x16384 [1, 0] (m ((c : Thread nD τ).loc main_arg0)) transposes_S16384x1000_S1000x16384_1_0 := by
  unfold V
  simp only [hostOps0, hostOps0_1, TRef.unary, TRef.toBuf, TRef.ofBuf, cast_eq, List.flatten_cons, List.flatten_nil,
    List.append_nil, List.cons_append, List.nil_append]
  after_results

/-- and the bias as a column. -/
theorem V_column : V m c main_v0 = shapeCast S128x1 (m ((c : Thread nD τ).loc main_arg2)) shapeCasts_S128_S128x1 := by
  unfold V
  simp only [hostOps0, hostOps0_1, TRef.unary, TRef.toBuf, TRef.ofBuf, cast_eq, List.flatten_cons, List.flatten_nil,
    List.append_nil, List.cons_append, List.nil_append]
  after_results
  rfl

/-- A window's only block is its whole array: the weights, -/
theorem weights_block : iblk m c 0 t0_0 = V m c main_arg1 := by
  funext x
  refine (View.read_apply ..).trans (congrArg (V m c main_arg1) (Rect.emb_eq_of_coords _ _ _ fun a => ?_))
  match a with
  | ⟨0, _⟩ | ⟨1, _⟩ => exact ((Nat.zero_add _).trans (Nat.one_mul _)).symm

/-- and the bias column. -/
theorem column_block : iblk m c 1 t0_0 = V m c main_v0 := by
  funext x
  refine (View.read_apply ..).trans (congrArg (V m c main_v0) (Rect.emb_eq_of_coords _ _ _ fun a => ?_))
  match a with
  | ⟨0, _⟩ | ⟨1, _⟩ => exact ((Nat.zero_add _).trans (Nat.one_mul _)).symm

/-- What the run leaves in the result's buffer, in the arguments alone. -/
theorem out_eq : out m c = result
    (transpose S1000x16384 [1, 0] (m ((c : Thread nD τ).loc main_arg0)) transposes_S16384x1000_S1000x16384_1_0)
    (m ((c : Thread nD τ).loc main_arg1))
    (shapeCast S128x1 (m ((c : Thread nD τ).loc main_arg2)) shapeCasts_S128_S128x1) := by
  unfold out
  rw [weights_block, column_block, V_transposed, V_main_arg1, V_column]

end Entry

variable (x : S16384x1000.Idx → Elt Ideal .f32) (w : S1000x128.Idx → Elt Ideal .f32) (b : S128.Idx → Elt Ideal .f32)

/-- The mathematics both programs compute: element `(m, n)` is the sum over `k` of `x (m, k)` times `w (k, n)`, plus
    `b n`, or zero if that is less. -/
def dense (i : S16384x128.Idx) : EReal := max (∑ k : Fin 1000, x (ix2 (i 0) k) * w (ix2 k (i 1)) + b (ix1 (i 1))) 0

/-- The kernel computes it, -/
theorem result_dense : result (F := Ideal) (transpose S1000x16384 [1, 0] x transposes_S16384x1000_S1000x16384_1_0) w
    (shapeCast S128x1 b shapeCasts_S128_S128x1) = dense x w b := by
  funext i
  unfold result dense
  refine (congrArg (fun a => FloatOps.maximumf (FloatOps.addf a _) _) (acc_sum _ w (i 1) (i 0))).trans ?_
  pointwise []

/-- and so does the reference. -/
theorem reference_dense :
    maximumf (addf (Host.dotGeneral (F := Ideal) (φ₁ := .f32) (φ₂ := .f32) Cert.ReferenceIdeal.dot_S16384x1000_S1000x128_S16384x128_1_0_0_1_n_n none x w)
      (broadcastInDim Cert.ReferenceIdeal.S16384x128 ![0, 1] Cert.ReferenceIdeal.Facts₀.bcast_S1x128_S16384x128_0_1
        (broadcastInDim Cert.ReferenceIdeal.S1x128 ![1] Cert.ReferenceIdeal.Facts₀.bcast_S128_S1x128_1 b)))
      (broadcastInDim Cert.ReferenceIdeal.S16384x128 ![] Cert.ReferenceIdeal.Facts₀.bcast_S_S16384x128
        (constant Cert.ReferenceIdeal.S_ .f32 0x00000000#32)) = dense x w b := by
  funext i
  pointwise [dense]

end Cert.KernelIdeal.Body

end
-- ==== Proof.lean ====
/-
  The proof of the claim: each of the three programs runs to the end with its arguments unchanged and its semaphores at
  zero, the idealised program is the kernel's own text, and over the extended reals kernel and reference leave the same
  result.

  `Proof/Body.lean` runs the kernel's body once; `Proof/Result.lean` says what array the run leaves in the result;
  `Proof/Run.lean` launches it; `Proof/SameText.lean` carries the frame to the machine's floats; `Proof/Sums.lean` and
  `Proof/Value.lean` are the mathematics.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.SameText
public import proofs.«01_k».proof.Proof.Value
public import Idealize.ShloMosaic.Adequacy
public import Idealize.ShloMosaic.Init
public import proofs.«01_k».proof.Proof.Gen.ReferenceIdeal.Run

@[expose] public section

noncomputable section

namespace Cert.Proof

open Idealize.ShloMosaic Idealize.SL.Sem

/-- The idealised program runs to the end, its arguments unchanged and every semaphore at zero. -/
theorem frame_ideal : Cert.quiescent_KernelIdeal (hKernelIdeal := Cert.KernelIdeal.Gen.facts) :=
  fun m g _ => Cert.KernelIdeal.Body.frame (F := Ideal) m g

/-- So does the reference, which has no semaphores. -/
theorem frame_reference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- From memories that agree on the arguments both end with `dense` of them as the result. -/
theorem equation : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Body.out m c,
    (θ_run Cert.KernelIdeal.defs _ _).mono (fun _ h => h.1) (Cert.KernelIdeal.Body.run (F := Ideal) m g),
    (θ_run Cert.ReferenceIdeal.defs _ _).mono
      (fun _ h c => ⟨(h c).1.trans (by
        rw [(hargs c).1, (hargs c).2.1, (hargs c).2.2]
        exact (Cert.KernelIdeal.Body.reference_dense _ _ _).trans
          ((Cert.KernelIdeal.Body.out_eq m c).trans (Cert.KernelIdeal.Body.result_dense _ _ _)).symm), (h c).2⟩)
      (Cert.ReferenceIdeal.Value.run (F := Ideal) m' g')⟩

/-- THE CLAIM: the frame of each of the three programs, the idealisation without rewrites, and the equation. -/
theorem claim : Cert.Claim := ⟨Cert.Kernel.Gen.facts, Cert.KernelIdeal.Gen.facts, Cert.ReferenceIdeal.Gen.facts,
  frame_bits, frame_ideal, frame_reference, trivial, equation⟩

end Cert.Proof

end
